-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x65536 : Shape := ⟨3, ![8, 1, 65536]⟩
abbrev S8x1x128x64 : Shape := ⟨4, ![8, 1, 128, 64]⟩
abbrev S8x8192x512 : Shape := ⟨3, ![8, 8192, 512]⟩
abbrev S8x8192 : Shape := ⟨2, ![8, 8192]⟩
abbrev S8x8192x64 : Shape := ⟨3, ![8, 8192, 64]⟩
abbrev S8x128x512 : Shape := ⟨3, ![8, 128, 512]⟩
abbrev S8x128x64 : Shape := ⟨3, ![8, 128, 64]⟩
abbrev S8x1x8192 : Shape := ⟨3, ![8, 1, 8192]⟩
abbrev S1x128x512 : Shape := ⟨3, ![1, 128, 512]⟩
abbrev S1x128x64 : Shape := ⟨3, ![1, 128, 64]⟩
abbrev S1x1024x512 : Shape := ⟨3, ![1, 1024, 512]⟩
abbrev S1x1x1024 : Shape := ⟨3, ![1, 1, 1024]⟩
abbrev S1x1024x64 : Shape := ⟨3, ![1, 1024, 64]⟩
abbrev S128x1 : Shape := ⟨2, ![128, 1]⟩
abbrev S128x512 : Shape := ⟨2, ![128, 512]⟩
abbrev S1024x512 : Shape := ⟨2, ![1024, 512]⟩
abbrev S1x1024 : Shape := ⟨2, ![1, 1024]⟩
abbrev S128x1024 : Shape := ⟨2, ![128, 1024]⟩
abbrev S128x64 : Shape := ⟨2, ![128, 64]⟩
abbrev S1024x64 : Shape := ⟨2, ![1024, 64]⟩
abbrev S128 : Shape := ⟨1, ![128]⟩

abbrev nBuf : Space → Nat
  | .hbm => 10
  | .vmem => 15
  | .smem => 0
  | _ => 0

abbrev bufTy : (tb : Table) → Fin (tcTables nBuf tb) → BufTy
  | .hbm, ⟨0, _⟩ => ⟨S8x1x65536, .bf16⟩
  | .hbm, ⟨1, _⟩ => ⟨S8x1x128x64, .bf16⟩
  | .hbm, ⟨2, _⟩ => ⟨S8x8192x512, .fp8e4m3⟩
  | .hbm, ⟨3, _⟩ => ⟨S8x8192, .f32⟩
  | .hbm, ⟨4, _⟩ => ⟨S8x8192x64, .bf16⟩
  | .hbm, ⟨5, _⟩ => ⟨S8x128x512, .bf16⟩
  | .hbm, ⟨6, _⟩ => ⟨S8x128x64, .bf16⟩
  | .hbm, ⟨7, _⟩ => ⟨S8x1x8192, .f32⟩
  | .hbm, ⟨8, _⟩ => ⟨S8x128x512, .bf16⟩
  | .hbm, ⟨9, _⟩ => ⟨S8x1x65536, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x64, .bf16⟩
  | .local _ .vmem, ⟨3, _⟩ => ⟨S1x128x64, .bf16⟩
  | .local _ .vmem, ⟨4, _⟩ => ⟨S1x1024x512, .fp8e4m3⟩
  | .local _ .vmem, ⟨5, _⟩ => ⟨S1x1024x512, .fp8e4m3⟩
  | .local _ .vmem, ⟨6, _⟩ => ⟨S1x1x1024, .f32⟩
  | .local _ .vmem, ⟨7, _⟩ => ⟨S1x1x1024, .f32⟩
  | .local _ .vmem, ⟨8, _⟩ => ⟨S1x1024x64, .bf16⟩
  | .local _ .vmem, ⟨9, _⟩ => ⟨S1x1024x64, .bf16⟩
  | .local _ .vmem, ⟨10, _⟩ => ⟨S1x128x512, .bf16⟩
  | .local _ .vmem, ⟨11, _⟩ => ⟨S1x128x512, .bf16⟩
  | .local _ .vmem, ⟨12, _⟩ => ⟨S128x1, .f32⟩
  | .local _ .vmem, ⟨13, _⟩ => ⟨S128x1, .f32⟩
  | .local _ .vmem, ⟨14, _⟩ => ⟨S128x512, .f32⟩
  | _, _ => ⟨S8x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_32 : BitVec 32 := 0#32
  let v53 : BitVec 1 := Scalar.cmpi .ne v52 c0_i32_32
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x1x65536 : Shape := ⟨3, ![8, 1, 65536]⟩
abbrev S8x1x128x64 : Shape := ⟨4, ![8, 1, 128, 64]⟩
abbrev S8x8192x512 : Shape := ⟨3, ![8, 8192, 512]⟩
abbrev S8x8192 : Shape := ⟨2, ![8, 8192]⟩
abbrev S8x8192x64 : Shape := ⟨3, ![8, 8192, 64]⟩
abbrev S8x128x512 : Shape := ⟨3, ![8, 128, 512]⟩
abbrev S8x128x64 : Shape := ⟨3, ![8, 128, 64]⟩
abbrev S8x1x8192 : Shape := ⟨3, ![8, 1, 8192]⟩
abbrev S8x128x8192 : Shape := ⟨3, ![8, 128, 8192]⟩
abbrev S8x128 : Shape := ⟨2, ![8, 128]⟩
abbrev S8x128x1 : Shape := ⟨3, ![8, 128, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x1x65536, .bf16⟩
  | .hbm, ⟨1, _⟩ => ⟨S8x1x128x64, .bf16⟩
  | .hbm, ⟨2, _⟩ => ⟨S8x8192x512, .fp8e4m3⟩
  | .hbm, ⟨3, _⟩ => ⟨S8x8192, .f32⟩
  | .hbm, ⟨4, _⟩ => ⟨S8x8192x64, .bf16⟩
  | .hbm, ⟨5, _⟩ => ⟨S8x128x512, .bf16⟩
  | .hbm, ⟨6, _⟩ => ⟨S8x128x64, .bf16⟩
  | .hbm, ⟨7, _⟩ => ⟨S8x128x512, .bf16⟩
  | .hbm, ⟨8, _⟩ => ⟨S8x1x65536, .bf16⟩
  | .local _ .vmem, ⟨0, _⟩ => ⟨S8x128x512, .bf16⟩
  | .local _ .vmem, ⟨1, _⟩ => ⟨S8x128x64, .bf16⟩
  | .local _ .vmem, ⟨2, _⟩ => ⟨S8x8192x512, .fp8e4m3⟩
  | .local _ .vmem, ⟨3, _⟩ => ⟨S8x8192, .f32⟩
  | .local _ .vmem, ⟨4, _⟩ => ⟨S8x8192x64, .bf16⟩
  | .local _ .vmem, ⟨5, _⟩ => ⟨S8x128x512, .bf16⟩
  | _, _ => ⟨S8x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Softmax.lean ====
/- The softmax computed in one pass over blocks equals the softmax computed over all entries at once, on the
   extended reals and with no condition on the entries. Nothing here mentions a program. -/
module

public import Idealize.ShloMosaic.PureOps.Ideal.Laws

@[expose] public section

noncomputable section

namespace Cert.Softmax

open Idealize.ShloMosaic

/-- The exponential of any extended real is nonnegative. -/
theorem exp_nonneg (x : EReal) : 0 ≤ Ideal.exp x := by
  induction x with
  | bot => simp
  | top => simp
  | coe r => rw [Ideal.exp_coe]; exact_mod_cast (Real.exp_pos r).le

/-- The factor by which older partial sums are rescaled is never infinite: the older maximum is not above the newer. -/
theorem exp_sub_ne_top {m m' : EReal} (h : m ≤ m') : Ideal.exp (m - m') ≠ ⊤ := by
  induction m with
  | bot => simp
  | top => obtain rfl := top_le_iff.1 h; simp [sub_eq_add_neg]
  | coe r =>
    induction m' with
    | bot => simp at h
    | top => simp [sub_eq_add_neg]
    | coe r' => rw [← EReal.coe_sub, Ideal.exp_coe]; exact EReal.coe_ne_top _

/-- An entry's weight against the older maximum, rescaled, is its weight against the newer maximum. This holds for
    infinite entries and maxima too, as long as the entry is at most the older maximum and that at most the newer. -/
theorem exp_sub_mul {s m m' : EReal} (h : s ≤ m) (h' : m ≤ m') :
    Ideal.exp (s - m) * Ideal.exp (m - m') = Ideal.exp (s - m') := by
  induction m' with
  | top => simp [sub_eq_add_neg]
  | bot =>
    obtain rfl := le_bot_iff.1 h'
    obtain rfl := le_bot_iff.1 h
    simp [sub_eq_add_neg]
  | coe r' =>
    induction m with
    | top => simp at h'
    | bot => obtain rfl := le_bot_iff.1 h; simp [sub_eq_add_neg]
    | coe r =>
      induction s with
      | top => simp at h
      | bot => simp [sub_eq_add_neg]
      | coe x =>
        simp only [← EReal.coe_sub, Ideal.exp_coe, ← EReal.coe_mul, ← Real.exp_add]
        congr 2; ring

/-- A finite nonnegative factor distributes over a finite sum of extended reals. -/
theorem sum_mul {ι : Type*} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 h1, ih]

section Blocks

variable {B : ℕ} (s a b : ℕ → Fin B → EReal)

/-- The running maximum after `k` blocks of scores. -/
def runMax : ℕ → EReal
  | 0 => ⊥
  | k + 1 => max (runMax k) (Finset.univ.fold max ⊥ (s k))

/-- The running sum of weighted entries after `k` blocks: the older sum rescaled to the new maximum, plus the block's
    own terms. With all entries `1` it is the running normalizer. -/
def runSum : ℕ → EReal
  | 0 => 0
  | k + 1 => runSum k * Ideal.exp (runMax s k - runMax s (k + 1))
      + ∑ t, Ideal.exp (s k t - runMax s (k + 1)) * a k t * b k t

/-- The running maximum never decreases. -/
theorem runMax_le_succ (k : ℕ) : runMax s k ≤ runMax s (k + 1) := le_max_left _ _

/-- Every score of the blocks passed is at most the running maximum. -/
theorem le_runMax {k : ℕ} : ∀ {i : ℕ}, i < k → ∀ t, s i t ≤ runMax s k := by
  induction k with
  | zero => intro i hi; omega
  | succ k ih =>
    intro i hi t
    rcases Nat.lt_succ_iff_lt_or_eq.1 hi with hi | rfl
    · exact (ih hi t).trans (runMax_le_succ s k)
    · exact ((Finset.fold_max_le _).1 le_rfl |>.2 t (Finset.mem_univ t)).trans (le_max_right _ _)

/-- The running maximum is the least bound of the scores of the blocks passed. -/
theorem runMax_le {k : ℕ} {z : EReal} (h : ∀ i < k, ∀ t, s i t ≤ z) : runMax s k ≤ z := by
  induction k with
  | zero => exact bot_le
  | succ k ih =>
    refine max_le (ih fun i hi => h i (by omega)) ((Finset.fold_max_le _).2 ⟨bot_le, fun t _ => h k (by omega) t⟩)

/-- The running sum, rescaled at every block, is the plain sum of the terms weighted against the current maximum. -/
theorem runSum_eq (k : ℕ) :
    runSum s a b k = ∑ i ∈ Finset.range k, ∑ t, Ideal.exp (s i t - runMax s k) * a i t * b i t := by
  induction k with
  | zero => rfl
  | succ k ih =>
    have h := runMax_le_succ s k
    rw [runSum, ih, sum_mul _ _ (exp_nonneg _) (exp_sub_ne_top h), Finset.sum_range_succ]
    congr 1
    refine Finset.sum_congr rfl fun i hi => ?_
    rw [sum_mul _ _ (exp_nonneg _) (exp_sub_ne_top h)]
    refine Finset.sum_congr rfl fun t _ => ?_
    rw [← exp_sub_mul (le_runMax s (Finset.mem_range.1 hi) t) h]
    ac_rfl

end Blocks

section Flat

variable {K B : ℕ} {ι : Type*} [Fintype ι] (e : Fin K × Fin B ≃ ι)

/-- After all `K` blocks of `B`, which together list the entries once each, the running maximum is the maximum of all
    the scores. -/
theorem runMax_flat (s : ℕ → Fin B → EReal) (f : ι → EReal)
    (h : ∀ (i : Fin K) (t : Fin B), s i t = f (e (i, t))) :
    runMax s K = Finset.univ.fold max ⊥ f := by
  apply le_antisymm
  · refine runMax_le s fun i hi t => ?_
    rw [h ⟨i, hi⟩ t]
    exact (Finset.fold_max_le _).1 le_rfl |>.2 _ (Finset.mem_univ _)
  · refine (Finset.fold_max_le _).2 ⟨bot_le, fun x _ => ?_⟩
    obtain ⟨⟨i, t⟩, rfl⟩ := e.surjective x
    rw [← h i t]
    exact le_runMax s i.2 t

/-- After all `K` blocks of `B`, which together list the entries once each, the running sum is the sum over all entries
    of the terms weighted against the maximum of all the scores. -/
theorem runSum_flat (s a b : ℕ → Fin B → EReal) (f u v : ι → EReal)
    (hs : ∀ (i : Fin K) (t : Fin B), s i t = f (e (i, t)))
    (ha : ∀ (i : Fin K) (t : Fin B), a i t = u (e (i, t)))
    (hb : ∀ (i : Fin K) (t : Fin B), b i t = v (e (i, t))) :
    runSum s a b K = ∑ x, Ideal.exp (f x - Finset.univ.fold max ⊥ f) * u x * v x := by
  rw [runSum_eq, runMax_flat e s f hs, ← e.sum_comp, Fintype.sum_prod_type, Finset.sum_range]
  refine Finset.sum_congr rfl fun i _ => Finset.sum_congr rfl fun t _ => ?_
  rw [hs, ha, hb]

end Flat

end Cert.Softmax

end
-- ==== Proof.Attention.lean ====
/- What one decode step computes, as plain mathematics on the extended reals: the scores of 8192 cached tokens, their
   softmax, and the weighted sum of the cached latents. Then: the same value from running sums over 8 blocks of 1024
   tokens. Nothing here mentions a program. -/
module

public import proofs.«01_k».proof.Proof.Softmax

@[expose] public section

noncomputable section

namespace Cert.Attention

open Idealize.ShloMosaic

/-- The five operands at coordinates: the latent queries, the rotary queries, the cached latents, the per-token scales
    of the cached latents, the cached rotary keys. -/
structure Inputs where
  q : Fin 8 → Fin 128 → Fin 512 → EReal
  qr : Fin 8 → Fin 128 → Fin 64 → EReal
  c : Fin 8 → Fin 8192 → Fin 512 → EReal
  sc : Fin 8 → Fin 8192 → EReal
  kr : Fin 8 → Fin 8192 → Fin 64 → EReal

namespace Inputs

variable (I : Inputs) (b : Fin 8) (h : Fin 128)

/-- The score of token `t` for head `h` of batch entry `b`: the latent product times the token's scale, plus the rotary
    product, times the softmax scale (the single-precision number `0.0721687824`). -/
def score (t : Fin 8192) : EReal :=
  ((∑ d, I.q b h d * I.c b t d) * I.sc b t + ∑ r, I.qr b h r * I.kr b t r) * Ideal.ofBits .f32 0x3D93CD3A#32

/-- The largest score over all tokens. -/
def top : EReal := Finset.univ.fold max ⊥ (I.score b h)

/-- Coordinate `d` of the attention result: the softmax-weighted sum of the scaled latents. -/
def attend (d : Fin 512) : EReal :=
  Ideal.div (∑ t, Ideal.exp (I.score b h t - I.top b h) * I.sc b t * I.c b t d)
    (∑ t, Ideal.exp (I.score b h t - I.top b h))

end Inputs

/-- Token `x` of block `k`, as one of the 8192 (the remainder only makes this total in `k`). -/
def tok (k : ℕ) (x : Fin 1024) : Fin 8192 := ⟨(k * 1024 + x.val) % 8192, Nat.mod_lt _ (by omega)⟩

/-- The 8 blocks of 1024 tokens list the 8192 tokens once each. -/
def tokEquiv : Fin 8 × Fin 1024 ≃ Fin 8192 := finProdFinEquiv.trans (finCongr (by norm_num))

theorem tok_eq (k : Fin 8) (x : Fin 1024) : tok k x = tokEquiv (k, x) := by
  apply Fin.ext
  have : (tokEquiv (k, x)).val = x.val + 1024 * k.val := rfl
  rw [this]
  show (k.val * 1024 + x.val) % 8192 = _
  omega

namespace Inputs

variable (I : Inputs) (b : Fin 8) (h : Fin 128)

/-- The scores of block `k`. -/
def blkScore (k : ℕ) (x : Fin 1024) : EReal := I.score b h (tok k x)

/-- The running maximum of head `h` after `k` blocks. -/
def runTop (k : ℕ) : EReal := Softmax.runMax (I.blkScore b h) k

/-- The running normalizer of head `h` after `k` blocks. -/
def runNorm (k : ℕ) : EReal := Softmax.runSum (I.blkScore b h) (fun _ _ => 1) (fun _ _ => 1) k

/-- The running weighted sum of latent coordinate `d` after `k` blocks. -/
def runAcc (d : Fin 512) (k : ℕ) : EReal :=
  Softmax.runSum (I.blkScore b h) (fun k x => I.sc b (tok k x)) (fun k x => I.c b (tok k x) d) k

/-- One block's update of the running maximum. -/
theorem runTop_succ (k : ℕ) :
    I.runTop b h (k + 1) = max (I.runTop b h k) (Finset.univ.fold max ⊥ (I.blkScore b h k)) := rfl

/-- One block's update of the running normalizer. -/
theorem runNorm_succ (k : ℕ) : I.runNorm b h (k + 1) =
    I.runNorm b h k * Ideal.exp (I.runTop b h k - I.runTop b h (k + 1))
      + ∑ x, Ideal.exp (I.blkScore b h k x - I.runTop b h (k + 1)) := by
  simp only [runNorm, runTop, Softmax.runSum, mul_one]

/-- One block's update of the running weighted sum. -/
theorem runAcc_succ (d : Fin 512) (k : ℕ) : I.runAcc b h d (k + 1) =
    I.runAcc b h d k * Ideal.exp (I.runTop b h k - I.runTop b h (k + 1))
      + ∑ x, Ideal.exp (I.blkScore b h k x - I.runTop b h (k + 1)) * I.sc b (tok k x) * I.c b (tok k x) d := rfl

/-- After the eighth block, the running weighted sum over the running normalizer is the attention result: the softmax
    taken block by block, with rescaling, is the softmax over all tokens. -/
theorem runAcc_div_runNorm (d : Fin 512) :
    Ideal.div (I.runAcc b h d 8) (I.runNorm b h 8) = I.attend b h d := by
  have hs : ∀ (i : Fin 8) (t : Fin 1024), I.blkScore b h i t = I.score b h (tokEquiv (i, t)) := fun i t => by
    rw [← tok_eq]; rfl
  have e : I.runAcc b h d 8 = ∑ t, Ideal.exp (I.score b h t - I.top b h) * I.sc b t * I.c b t d :=
    Softmax.runSum_flat tokEquiv (I.blkScore b h) (fun k x => I.sc b (tok k x))
      (fun k x => I.c b (tok k x) d) (I.score b h) (I.sc b) (fun t => I.c b t d) hs
      (fun i t => by rw [← tok_eq]) (fun i t => by rw [← tok_eq])
  have e' : I.runNorm b h 8 = ∑ t, Ideal.exp (I.score b h t - I.top b h) * 1 * 1 :=
    Softmax.runSum_flat tokEquiv (I.blkScore b h) (fun _ _ => 1) (fun _ _ => 1)
      (I.score b h) (fun _ => 1) (fun _ => 1) hs (fun _ _ => rfl) (fun _ _ => rfl)
  simp only [mul_one] at e'
  rw [e, e', attend]

end Inputs

/-- The single-precision word of minus infinity reads as the bottom extended real. -/
theorem ofBits_neg_inf : Ideal.ofBits .f32 0xFF800000#32 = ⊥ := by
  simp [Ideal.ofBits, Ideal.ieee]

end Cert.Attention

end
-- ==== Proof.Kernel.lean ====
/- What the kernel leaves in its result array: after block `k` of a batch entry the three scratch buffers hold the
   running maximum, normalizer and weighted sum of `Attention.lean`; at the last block their quotient is stored. -/
module

public import proofs.«01_k».proof.Proof.Attention
public import proofs.«01_k».proof.Proof.Gen.KernelIdeal.Frame
public import Idealize.ShloMosaic.Lib.Pipeline.ValueKit

@[expose] public section

set_option maxRecDepth 16384

noncomputable section

namespace Cert.KernelIdeal.Hand

open Idealize.ShloMosaic Idealize.ShloMosaic.TcCoe Idealize.SL.Sem Cert.KernelIdeal Cert.KernelIdeal.Gen Cert.Attention

variable (m : (ℓ : Loc nD τ sig) → Buf (Elt Ideal) ℓ)

/-- The queries as the host lines reshape them. -/
def qBuf (c : Dev nD) : Vec Ideal S8x128x512 .bf16 :=
  shapeCast S8x128x512 (m ((c : Thread nD τ).loc main_arg0)) shapeCasts_S8x1x65536_S8x128x512

/-- The rotary queries as the host lines reshape them. -/
def qrBuf (c : Dev nD) : Vec Ideal S8x128x64 .bf16 :=
  shapeCast S8x128x64 (m ((c : Thread nD τ).loc main_arg1)) shapeCasts_S8x1x128x64_S8x128x64

/-- The operands of the attention step, read off the argument arrays. -/
def inputs (c : Dev nD) : Inputs where
  q b h d := qBuf m c (ix3 b h d)
  qr b h r := qrBuf m c (ix3 b h r)
  c b t d := m ((c : Thread nD τ).loc main_arg2) (ix3 b t d)
  sc b t := m ((c : Thread nD τ).loc main_arg3) (ix2 b t)
  kr b t r := m ((c : Thread nD τ).loc main_arg4) (ix3 b t r)

/-- Which block of each array a grid point sees: point `t` is block `t % 8` of batch entry `t / 8`. -/
theorem idx : ∀ t : Fin cfg0.N,
    win0_0.index t = ![t.val / 8, 0, 0] ∧ win0_1.index t = ![t.val / 8, 0, 0]
    ∧ win0_2.index t = ![t.val / 8, t.val % 8, 0] ∧ win0_3.index t = ![t.val / 8, 0, t.val % 8]
    ∧ win0_4.index t = ![t.val / 8, t.val % 8, 0] ∧ win0_5.index t = ![t.val / 8, 0, 0] :=
  (by decide +kernel : ∀ t : Fin grid0.N, _)

theorem lt_N (t : Fin cfg0.N) : t.val < 64 := lt_of_lt_of_eq t.isLt (show cfg0.N = 64 from N_0)

/-- The batch entry of a grid point. -/
def bat (t : Fin cfg0.N) : Fin 8 := ⟨t.val / 8, by have := lt_N t; omega⟩

/-- The query array when the grid starts. -/
theorem V_q (c : Dev nD) : V m c main_v0 = qBuf m c := by
  entry_read; rfl

/-- The rotary query array when the grid starts. -/
theorem V_qr (c : Dev nD) : V m c main_v1 = qrBuf m c := by
  entry_read; rfl

/-- Inserting a middle axis of length one moves no entry. -/
theorem sc_cast (x : Vec Ideal S8x8192 .f32) (b : Fin 8) (t : Fin 8192) :
    shapeCast S8x1x8192 x shapeCasts_S8x8192_S8x1x8192 (ix3 b 0 t) = x (ix2 b t) := by
  pointwise

/-- The scale array when the grid starts: the argument with a middle axis of length one. -/
theorem V_sc (c : Dev nD) : V m c main_v2
    = shapeCast S8x1x8192 (m ((c : Thread nD τ).loc main_arg3)) shapeCasts_S8x8192_S8x1x8192 := by
  entry_read; rfl

/-- The query block of a grid point. -/
theorem q_blk (c : Dev nD) (t : Fin cfg0.N) (h : Fin 128) (d : Fin 512) :
    (show Vec Ideal S1x128x512 .bf16 from iblk m c 0 t) (ix3 0 h d) = (inputs m c).q (bat t) h d := by
  show _ = qBuf m c (ix3 (bat t) h d)
  rw [← V_q]
  blk_ext! [iblk, idx t, bat]

/-- The rotary query block of a grid point. -/
theorem qr_blk (c : Dev nD) (t : Fin cfg0.N) (h : Fin 128) (r : Fin 64) :
    (show Vec Ideal S1x128x64 .bf16 from iblk m c 1 t) (ix3 0 h r) = (inputs m c).qr (bat t) h r := by
  show _ = qrBuf m c (ix3 (bat t) h r)
  rw [← V_qr]
  blk_ext! [iblk, idx t, bat]

/-- The latent block of a grid point: 1024 consecutive tokens. -/
theorem c_blk (c : Dev nD) (t : Fin cfg0.N) (x : Fin 1024) (d : Fin 512) :
    (show Vec Ideal S1x1024x512 .fp8e4m3 from iblk m c 2 t) (ix3 0 x d)
      = (inputs m c).c (bat t) (tok (t.val % 8) x) d := by
  show _ = m ((c : Thread nD τ).loc main_arg2) (ix3 (bat t) (tok (t.val % 8) x) d)
  blk_ext! [iblk, V_main_arg2, idx t, bat, tok]

/-- The scales of a grid point's tokens. -/
theorem sc_blk (c : Dev nD) (t : Fin cfg0.N) (x : Fin 1024) :
    (show Vec Ideal S1x1x1024 .f32 from iblk m c 3 t) (ix3 0 0 x)
      = (inputs m c).sc (bat t) (tok (t.val % 8) x) := by
  refine Eq.trans ?_ (sc_cast (m ((c : Thread nD τ).loc main_arg3)) (bat t) (tok (t.val % 8) x))
  rw [← V_sc]
  blk_ext! [iblk, idx t, bat, tok]

/-- The rotary keys of a grid point's tokens. -/
theorem kr_blk (c : Dev nD) (t : Fin cfg0.N) (x : Fin 1024) (r : Fin 64) :
    (show Vec Ideal S1x1024x64 .bf16 from iblk m c 4 t) (ix3 0 x r)
      = (inputs m c).kr (bat t) (tok (t.val % 8) x) r := by
  show _ = m ((c : Thread nD τ).loc main_arg4) (ix3 (bat t) (tok (t.val % 8) x) r)
  blk_ext! [iblk, V_main_arg4, idx t, bat, tok]

/-- The body's scores, where its blocks hold the operands of batch entry `b` and block `k`. -/
theorem pay10_of (I : Inputs) (b : Fin 8) (k : ℕ) (h : Fin 128) (x : Fin 1024)
    (x0 : Vec Ideal S1x128x512 .bf16) (x1 : Vec Ideal S1x128x64 .bf16) (x2 : Vec Ideal S1x1024x512 .fp8e4m3)
    (x3 : Vec Ideal S1x1x1024 .f32) (x4 : Vec Ideal S1x1024x64 .bf16)
    (e0 : ∀ d, x0 (ix3 0 h d) = I.q b h d) (e1 : ∀ r, x1 (ix3 0 h r) = I.qr b h r)
    (e2 : ∀ d, x2 (ix3 0 x d) = I.c b (tok k x) d) (e3 : x3 (ix3 0 0 x) = I.sc b (tok k x))
    (e4 : ∀ r, x4 (ix3 0 x r) = I.kr b (tok k x) r) :
    k0_pay10 (F := Ideal) x2 x3 x0 x1 x4 (ix2 h x) = I.blkScore b h k x := by
  unfold Inputs.blkScore Inputs.score
  pointwise [k0_pay10, k0_pay8, k0_pay9]
  simp only [e0, e1, e2, e3, e4]

/-- The scores of a grid point's block. -/
theorem pay10_eq (c : Dev nD) (t : Fin cfg0.N) (h : Fin 128) (x : Fin 1024) :
    k0_pay10 (F := Ideal) (iblk m c 2 t) (iblk m c 3 t) (iblk m c 0 t) (iblk m c 1 t) (iblk m c 4 t) (ix2 h x)
      = (inputs m c).blkScore (bat t) h (t.val % 8) x :=
  pay10_of _ _ _ h x _ _ _ _ _ (q_blk m c t h) (qr_blk m c t h) (c_blk m c t x) (sc_blk m c t x) (kr_blk m c t x)

section Step

variable (I : Inputs) (b : Fin 8) (k : ℕ)
  (x0 : Vec Ideal S1x128x512 .bf16) (x1 : Vec Ideal S1x128x64 .bf16) (x2 : Vec Ideal S1x1024x512 .fp8e4m3)
  (x3 : Vec Ideal S1x1x1024 .f32) (x4 : Vec Ideal S1x1024x64 .bf16)
  (mx : Vec Ideal S128x1 .f32) (l : Vec Ideal S128x1 .f32) (acc : Vec Ideal S128x512 .f32)

/-- The body's new maximum is the running maximum one block further. -/
theorem pay11_eq (h : Fin 128)
    (es : ∀ x, k0_pay10 (F := Ideal) x2 x3 x0 x1 x4 (ix2 h x) = I.blkScore b h k x)
    (em : mx (ix2 h 0) = I.runTop b h k) :
    k0_pay11 (F := Ideal) x2 x3 x0 x1 x4 mx (ix2 h 0) = I.runTop b h (k + 1) := by
  rw [Inputs.runTop_succ]
  pointwise [k0_pay11]
  simp only [em, ofBits_neg_inf]
  congr 2
  funext x
  exact es x

/-- The maximum is stored as it is. -/
theorem pay2_eq (h : Fin 128)
    (es : ∀ x, k0_pay10 (F := Ideal) x2 x3 x0 x1 x4 (ix2 h x) = I.blkScore b h k x)
    (em : mx (ix2 h 0) = I.runTop b h k) :
    k0_pay2 (F := Ideal) (k0_pay11 x2 x3 x0 x1 x4 mx) (ix2 h 0) = I.runTop b h (k + 1) := by
  refine Eq.trans ?_ (pay11_eq I b k x0 x1 x2 x3 x4 mx h es em)
  pointwise [k0_pay2]

/-- The body's rescaling factor. -/
theorem pay12_eq (h : Fin 128)
    (es : ∀ x, k0_pay10 (F := Ideal) x2 x3 x0 x1 x4 (ix2 h x) = I.blkScore b h k x)
    (em : mx (ix2 h 0) = I.runTop b h k) :
    k0_pay12 (F := Ideal) x2 x3 x0 x1 x4 mx (ix2 h 0) = Ideal.exp (I.runTop b h k - I.runTop b h (k + 1)) := by
  have e := pay11_eq I b k x0 x1 x2 x3 x4 mx h es em
  pointwise [k0_pay12]
  rw [e, em]

/-- The body's weights of a block's tokens. -/
theorem pay13_eq (h : Fin 128)
    (es : ∀ x, k0_pay10 (F := Ideal) x2 x3 x0 x1 x4 (ix2 h x) = I.blkScore b h k x)
    (em : mx (ix2 h 0) = I.runTop b h k) (x : Fin 1024) :
    k0_pay13 (F := Ideal) x2 x3 x0 x1 x4 mx (ix2 h x) = Ideal.exp (I.blkScore b h k x - I.runTop b h (k + 1)) := by
  have e := pay11_eq I b k x0 x1 x2 x3 x4 mx h es em
  pointwise [k0_pay13]
  rw [e, es]

/-- The body's new normalizer is the running normalizer one block further. -/
theorem pay1_eq (h : Fin 128)
    (es : ∀ x, k0_pay10 (F := Ideal) x2 x3 x0 x1 x4 (ix2 h x) = I.blkScore b h k x)
    (em : mx (ix2 h 0) = I.runTop b h k) (el : l (ix2 h 0) = I.runNorm b h k) :
    k0_pay1 (F := Ideal) (k0_pay13 x2 x3 x0 x1 x4 mx) (k0_pay14 x2 x3 x0 x1 x4 mx l) (ix2 h 0)
      = I.runNorm b h (k + 1) := by
  have e := pay12_eq I b k x0 x1 x2 x3 x4 mx h es em
  have e' := pay13_eq I b k x0 x1 x2 x3 x4 mx h es em
  rw [Inputs.runNorm_succ]
  pointwise [k0_pay1, k0_pay14]
  simp only [e, e', el]

/-- The body's new accumulator is the running weighted sum one block further. -/
theorem pay3_eq (h : Fin 128) (d : Fin 512)
    (es : ∀ x, k0_pay10 (F := Ideal) x2 x3 x0 x1 x4 (ix2 h x) = I.blkScore b h k x)
    (em : mx (ix2 h 0) = I.runTop b h k) (ea : acc (ix2 h d) = I.runAcc b h d k)
    (ec : ∀ x, x2 (ix3 0 x d) = I.c b (tok k x) d) (et : ∀ x, x3 (ix3 0 0 x) = I.sc b (tok k x)) :
    k0_pay3 (F := Ideal) (k0_pay8 x2) (k0_pay9 x3) (k0_pay12 x2 x3 x0 x1 x4 mx) (k0_pay13 x2 x3 x0 x1 x4 mx) acc
      (ix2 h d) = I.runAcc b h d (k + 1) := by
  have e := pay12_eq I b k x0 x1 x2 x3 x4 mx h es em
  have e' := pay13_eq I b k x0 x1 x2 x3 x4 mx h es em
  rw [Inputs.runAcc_succ]
  pointwise [k0_pay3, k0_pay8, k0_pay9]
  simp only [e, e', ea, ec, et]

end Step

/-- What the scratch buffers hold after grid point `t`: the running quantities after block `t % 8` of batch entry
    `t / 8`. -/
def Holds (c : Dev nD) (t : Fin cfg0.N) : Prop :=
  (∀ h : Fin 128, (outsAt0 m c t.val t.isLt).2.1 (ix2 h 0) = (inputs m c).runTop (bat t) h (t.val % 8 + 1))
  ∧ (∀ h : Fin 128, (outsAt0 m c t.val t.isLt).2.2.1 (ix2 h 0) = (inputs m c).runNorm (bat t) h (t.val % 8 + 1))
  ∧ ∀ (h : Fin 128) (d : Fin 512),
      (outsAt0 m c t.val t.isLt).2.2.2 (ix2 h d) = (inputs m c).runAcc (bat t) h d (t.val % 8 + 1)

/-- The first block of a batch entry starts from the empty running quantities. -/
theorem holds_first (c : Dev nD) (t : Fin cfg0.N) (h0 : t.val % 8 = 0) : Holds m c t := by
  have h1 : ¬t.val % 8 = 7 := by omega
  have es := fun h x => pay10_eq m c t h x
  have ec := fun d x => c_blk m c t x d
  have et := fun x => sc_blk m c t x
  have e5 : ∀ h : Fin 128, k0_pay5 (F := Ideal) (ix2 h 0) = (inputs m c).runTop (bat t) h (t.val % 8) := fun h => by
    rw [h0]
    show _ = (⊥ : EReal)
    pointwise [k0_pay5]
    exact ofBits_neg_inf
  have e6 : ∀ h : Fin 128, k0_pay6 (F := Ideal) (ix2 h 0) = (inputs m c).runNorm (bat t) h (t.val % 8) := fun h => by
    rw [h0]
    show _ = (0 : EReal)
    pointwise [k0_pay6]
  have e7 : ∀ (h : Fin 128) (d : Fin 512), k0_pay7 (F := Ideal) (ix2 h d) = (inputs m c).runAcc (bat t) h d (t.val % 8) := fun h d => by
    rw [h0]
    show _ = (0 : EReal)
    pointwise [k0_pay7]
  unfold Holds
  rw [outsAt0_A m c t h0 h1]
  refine ⟨fun h => ?_, fun h => ?_, fun h d => ?_⟩
  · dsimp only
    frame_out
    exact pay2_eq _ _ _ _ _ _ _ _ _ h (es h) (e5 h)
  · dsimp only
    frame_out
    exact pay1_eq _ _ _ _ _ _ _ _ _ _ h (es h) (e5 h) (e6 h)
  · dsimp only
    frame_out
    exact pay3_eq _ _ _ _ _ _ _ _ _ _ h d (es h) (e5 h) (e7 h d) (ec d) et

/-- The running quantities before a later block of a batch entry are those the block before left. -/
theorem before_later (c : Dev nD) (t : Fin cfg0.N) (h0 : ¬t.val % 8 = 0)
    (hp : Holds m c ⟨t.val - 1, Nat.lt_of_le_of_lt (Nat.sub_le _ _) t.isLt⟩) :
    (∀ h : Fin 128, (outsAt0 m c (t.val - 1) (Nat.lt_of_le_of_lt (Nat.sub_le _ _) t.isLt)).2.1 (ix2 h 0)
        = (inputs m c).runTop (bat t) h (t.val % 8))
    ∧ (∀ h : Fin 128, (outsAt0 m c (t.val - 1) (Nat.lt_of_le_of_lt (Nat.sub_le _ _) t.isLt)).2.2.1 (ix2 h 0)
        = (inputs m c).runNorm (bat t) h (t.val % 8))
    ∧ ∀ (h : Fin 128) (d : Fin 512),
        (outsAt0 m c (t.val - 1) (Nat.lt_of_le_of_lt (Nat.sub_le _ _) t.isLt)).2.2.2 (ix2 h d)
          = (inputs m c).runAcc (bat t) h d (t.val % 8) := by
  have ek : (t.val - 1) % 8 + 1 = t.val % 8 := by omega
  have eb : bat ⟨t.val - 1, Nat.lt_of_le_of_lt (Nat.sub_le _ _) t.isLt⟩ = bat t := by
    apply Fin.ext
    show (t.val - 1) / 8 = t.val / 8
    omega
  unfold Holds at hp
  dsimp only at hp
  rw [ek, eb] at hp
  exact hp

/-- A later block of a batch entry takes the running quantities one block further. -/
theorem holds_later (c : Dev nD) (t : Fin cfg0.N) (h0 : ¬t.val % 8 = 0)
    (hp : Holds m c ⟨t.val - 1, Nat.lt_of_le_of_lt (Nat.sub_le _ _) t.isLt⟩) : Holds m c t := by
  have es := fun h x => pay10_eq m c t h x
  have ec := fun d x => c_blk m c t x d
  have et := fun x => sc_blk m c t x
  obtain ⟨e5, e6, e7⟩ := before_later m c t h0 hp
  unfold Holds
  by_cases h1 : t.val % 8 = 7
  · rw [outsAt0_C m c t h0 h1]
    refine ⟨fun h => ?_, fun h => ?_, fun h d => ?_⟩
    · dsimp only
      frame_out
      exact pay2_eq _ _ _ _ _ _ _ _ _ h (es h) ((congrFun (Memref.IsWhole.read_unread _ _) _).trans (e5 h))
    · dsimp only
      frame_out
      exact pay1_eq _ _ _ _ _ _ _ _ _ _ h (es h) ((congrFun (Memref.IsWhole.read_unread _ _) _).trans (e5 h)) ((congrFun (Memref.IsWhole.read_unread _ _) _).trans (e6 h))
    · dsimp only
      frame_out
      exact pay3_eq _ _ _ _ _ _ _ _ _ _ h d (es h) ((congrFun (Memref.IsWhole.read_unread _ _) _).trans (e5 h)) ((congrFun (Memref.IsWhole.read_unread _ _) _).trans (e7 h d)) (ec d) et
  · rw [outsAt0_B m c t h0 h1]
    refine ⟨fun h => ?_, fun h => ?_, fun h d => ?_⟩
    · dsimp only
      frame_out
      exact pay2_eq _ _ _ _ _ _ _ _ _ h (es h) ((congrFun (Memref.IsWhole.read_unread _ _) _).trans (e5 h))
    · dsimp only
      frame_out
      exact pay1_eq _ _ _ _ _ _ _ _ _ _ h (es h) ((congrFun (Memref.IsWhole.read_unread _ _) _).trans (e5 h)) ((congrFun (Memref.IsWhole.read_unread _ _) _).trans (e6 h))
    · dsimp only
      frame_out
      exact pay3_eq _ _ _ _ _ _ _ _ _ _ h d (es h) ((congrFun (Memref.IsWhole.read_unread _ _) _).trans (e5 h)) ((congrFun (Memref.IsWhole.read_unread _ _) _).trans (e7 h d)) (ec d) et

/-- The running quantities are what the scratch buffers hold after every grid point. -/
theorem holds (c : Dev nD) : ∀ (n : ℕ) (hn : n < cfg0.N), Holds m c ⟨n, hn⟩ := by
  intro n
  induction n with
  | zero => exact fun hn => holds_first m c ⟨0, hn⟩ rfl
  | succ n ih =>
    intro hn
    by_cases h0 : (n + 1) % 8 = 0
    · exact holds_first m c ⟨n + 1, hn⟩ h0
    · exact holds_later m c ⟨n + 1, hn⟩ h0 (ih (Nat.lt_of_succ_lt hn))

/-- At a batch entry's last block the body stores the attention result into the output block. -/
theorem out_last (c : Dev nD) (t : Fin cfg0.N) (h1 : t.val % 8 = 7) (z : Fin 1) (h : Fin 128) (d : Fin 512) :
    (outsAt0 m c t.val t.isLt).1 (ix3 z h d) = (inputs m c).attend (bat t) h d := by
  have h0 : ¬t.val % 8 = 0 := by omega
  obtain ⟨-, hl, ha⟩ := holds m c t.val t.isLt
  have hl := hl h
  have ha := ha h d
  dsimp only at hl ha
  rw [← Inputs.runAcc_div_runNorm]
  rw [show t.val % 8 + 1 = 8 by omega] at hl ha
  rw [outsAt0_C m c t h0 h1] at hl ha ⊢
  dsimp only at hl ha ⊢
  rw [show (⟨t.val, t.isLt⟩ : Fin cfg0.N) = t from rfl] at hl ha
  revert hl ha
  frame_out
  intro hl ha
  pointwise [k0_pay4]
  rw [hl, ha]

/-- The array the grid leaves: the attention result of every batch entry, head and coordinate. -/
def result (c : Dev nD) : Vec Ideal S8x128x512 .bf16 := fun i => (inputs m c).attend (i 0) (i 1) (i 2)

/-- The output array after the grid. -/
theorem final (c : Dev nD) : (dats m 0 c).arrAt 5 cfg0.N = result m c := by
  refine (dats m 0 c).arrAt_eq_of_covers 5 _ (by decide +kernel) fun t hf y => ?_
  blk_simp
  rw [after0_5]
  have h1 : t.val % 8 = 7 := (flush0_5 t).mp hf
  obtain ⟨z, h, d, rfl⟩ : ∃ z h d, y = ix3 z h d := ⟨y 0, y 1, y 2, by blk_ext⟩
  refine (out_last m c t h1 z h d).trans ?_
  have e : (win0_5.blk t).view.emb (ix3 z h d) = ix3 (bat t) h d := by
    blk_ext [idx t, bat]
  rw [e]
  rfl

/-- The result buffer after the host's closing reshape. -/
theorem tail (c : Dev nD) : Pipeline.afterTail₀ cfgs (dats m) 0 (V0 m) [hostOps1] c main_v4
    = shapeCast S8x1x65536 (result m c) shapeCasts_S8x128x512_S8x1x65536 := by
  unfold Pipeline.afterTail₀
  simp only [hostOps1, List.flatten_cons, List.flatten_nil, List.append_nil, List.cons_append]
  entry_read
  congr 1
  exact (Pipeline.withArrays_arr (cfgs 0).spec (by decide) c (V0 m c) _ 5).trans (final m c)

/-- The whole program: every run ends with the attention result, reshaped, in the result buffer and the arguments
    unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v4)
        = shapeCast S8x1x65536 (result m c) shapeCasts_S8x128x512_S8x1x65536
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hv : θ_run defs (onTc (τ := τ) (main (F := Ideal))) ⟨m, fun _ => 0, ρ⟩ (fun r => ∀ c : Dev nD,
      r.2.mem ((c.tc : Thread nD τ).loc main_v4)
        = shapeCast S8x1x65536 (result m c) shapeCasts_S8x128x512_S8x1x65536) :=
    (θ_run defs _ _).mono (fun _ h c =>
      ((h c).2 main_v4 (Pipeline.mem_restRefs_of main_v4 (by decide) (by decide))).trans (tail m c)) (run_main m ρ)
  exact (θ_run defs _ _).mono (fun _ h c => ⟨h.1 c, h.2 c⟩) (θ_run_and hv (unchanged m ρ))

end Cert.KernelIdeal.Hand

end
-- ==== Proof.Reference.lean ====
/- What the reference leaves in its result array: the attention result of `Attention.lean`, in one step. -/
module

public import proofs.«01_k».proof.Proof.Attention
public import proofs.«01_k».proof.Proof.Gen.ReferenceIdeal.Frame
public import Idealize.ShloMosaic.Lib.Pipeline.ValueKit

@[expose] public section

set_option maxRecDepth 16384

noncomputable section

namespace Cert.ReferenceIdeal.Hand

open Idealize.ShloMosaic Idealize.ShloMosaic.TcCoe Idealize.SL.Sem Cert.ReferenceIdeal Cert.ReferenceIdeal.Gen Cert.Attention

variable (m : (ℓ : Loc nD τ sig) → Buf (Elt Ideal) ℓ)

/-- The queries as the host lines reshape them. -/
def qBuf (c : Dev nD) : Vec Ideal S8x128x512 .bf16 :=
  shapeCast S8x128x512 (m ((c : Thread nD τ).loc main_arg0)) shapeCasts_S8x1x65536_S8x128x512

/-- The rotary queries as the host lines reshape them. -/
def qrBuf (c : Dev nD) : Vec Ideal S8x128x64 .bf16 :=
  shapeCast S8x128x64 (m ((c : Thread nD τ).loc main_arg1)) shapeCasts_S8x1x128x64_S8x128x64

/-- The operands of the attention step, read off the argument arrays. -/
def inputs (c : Dev nD) : Inputs where
  q b h d := qBuf m c (ix3 b h d)
  qr b h r := qrBuf m c (ix3 b h r)
  c b t d := m ((c : Thread nD τ).loc main_arg2) (ix3 b t d)
  sc b t := m ((c : Thread nD τ).loc main_arg3) (ix2 b t)
  kr b t r := m ((c : Thread nD τ).loc main_arg4) (ix3 b t r)

/-- The array the reference computes: the attention result of every batch entry, head and coordinate. -/
def result (c : Dev nD) : Vec Ideal S8x128x512 .bf16 := fun i => (inputs m c).attend (i 0) (i 1) (i 2)

/-- The reference's lines are the attention result, entry by entry. -/
theorem pay1_of (I : Inputs) (v0 : Vec Ideal S8x128x512 .bf16) (v2 : Vec Ideal S8x128x64 .bf16)
    (v4 : Vec Ideal S8x8192x64 .bf16) (v5 : Vec Ideal S8x8192x512 .fp8e4m3) (v7 : Vec Ideal S8x8192 .f32)
    (e0 : ∀ b h d, v0 (ix3 b h d) = I.q b h d) (e2 : ∀ b h r, v2 (ix3 b h r) = I.qr b h r)
    (e4 : ∀ b t r, v4 (ix3 b t r) = I.kr b t r) (e5 : ∀ b t d, v5 (ix3 b t d) = I.c b t d)
    (e7 : ∀ b t, v7 (ix2 b t) = I.sc b t) (b : Fin 8) (h : Fin 128) (d : Fin 512) :
    k0_pay1 (F := Ideal) v0 v2 v4 v5 v7 (ix3 b h d) = I.attend b h d := by
  unfold Inputs.attend Inputs.top Inputs.score
  pointwise [k0_pay1]
  simp only [e0, e2, e4, e5, e7, ofBits_neg_inf]

/-- The one grid point sees every array whole. -/
theorem idx : ∀ t : Fin cfg0.N,
    win0_0.index t = ![0, 0, 0] ∧ win0_1.index t = ![0, 0, 0] ∧ win0_2.index t = ![0, 0, 0]
    ∧ win0_3.index t = ![0, 0] ∧ win0_4.index t = ![0, 0, 0] ∧ win0_5.index t = ![0, 0, 0] :=
  (by decide +kernel : ∀ t : Fin grid0.N, _)

/-- The query array when the grid starts. -/
theorem V_q (c : Dev nD) : V m c main_v0 = qBuf m c := by
  entry_read; rfl

/-- The rotary query array when the grid starts. -/
theorem V_qr (c : Dev nD) : V m c main_v1 = qrBuf m c := by
  entry_read; rfl

/-- The queries the grid point reads. -/
theorem q_blk (c : Dev nD) (t : Fin cfg0.N) (b : Fin 8) (h : Fin 128) (d : Fin 512) :
    (show Vec Ideal S8x128x512 .bf16 from iblk m c 0 t) (ix3 b h d) = (inputs m c).q b h d := by
  show _ = qBuf m c (ix3 b h d)
  rw [← V_q]
  blk_ext! [iblk, idx t]

/-- The rotary queries the grid point reads. -/
theorem qr_blk (c : Dev nD) (t : Fin cfg0.N) (b : Fin 8) (h : Fin 128) (r : Fin 64) :
    (show Vec Ideal S8x128x64 .bf16 from iblk m c 1 t) (ix3 b h r) = (inputs m c).qr b h r := by
  show _ = qrBuf m c (ix3 b h r)
  rw [← V_qr]
  blk_ext! [iblk, idx t]

/-- The cached latents the grid point reads. -/
theorem c_blk (c : Dev nD) (t : Fin cfg0.N) (b : Fin 8) (x : Fin 8192) (d : Fin 512) :
    (show Vec Ideal S8x8192x512 .fp8e4m3 from iblk m c 2 t) (ix3 b x d) = (inputs m c).c b x d := by
  show _ = m ((c : Thread nD τ).loc main_arg2) (ix3 b x d)
  blk_ext! [iblk, V_main_arg2, idx t]

/-- The scales the grid point reads. -/
theorem sc_blk (c : Dev nD) (t : Fin cfg0.N) (b : Fin 8) (x : Fin 8192) :
    (show Vec Ideal S8x8192 .f32 from iblk m c 3 t) (ix2 b x) = (inputs m c).sc b x := by
  show _ = m ((c : Thread nD τ).loc main_arg3) (ix2 b x)
  blk_ext! [iblk, V_main_arg3, idx t]

/-- The cached rotary keys the grid point reads. -/
theorem kr_blk (c : Dev nD) (t : Fin cfg0.N) (b : Fin 8) (x : Fin 8192) (r : Fin 64) :
    (show Vec Ideal S8x8192x64 .bf16 from iblk m c 4 t) (ix3 b x r) = (inputs m c).kr b x r := by
  show _ = m ((c : Thread nD τ).loc main_arg4) (ix3 b x r)
  blk_ext! [iblk, V_main_arg4, idx t]

/-- The output array after the one grid point. -/
theorem final (c : Dev nD) : (dats m 0 c).arrAt 5 cfg0.N = result m c := by
  refine (dats m 0 c).arrAt_eq_of_covers 5 _ (by decide +kernel) fun t hf y => ?_
  blk_simp
  rw [after0_5]
  frame_out
  obtain ⟨b, h, d, rfl⟩ : ∃ b h d, y = ix3 b h d := ⟨y 0, y 1, y 2, by blk_ext⟩
  refine (pay1_of (inputs m c) _ _ _ _ _ (q_blk m c t) (qr_blk m c t) (kr_blk m c t) (c_blk m c t) (sc_blk m c t) b h d).trans ?_
  have e : (win0_5.blk t).view.emb (ix3 b h d) = ix3 b h d := by
    blk_ext [idx t]
  rw [e]
  rfl

/-- The result buffer after the host's closing reshape. -/
theorem tail (c : Dev nD) : Pipeline.afterTail₀ cfgs (dats m) 0 (V0 m) [hostOps1] c main_v3
    = shapeCast S8x1x65536 (result m c) shapeCasts_S8x128x512_S8x1x65536 := by
  unfold Pipeline.afterTail₀
  simp only [hostOps1, List.flatten_cons, List.flatten_nil, List.append_nil, List.cons_append]
  entry_read
  congr 1
  exact (Pipeline.withArrays_arr (cfgs 0).spec (by decide) c (V0 m c) _ 5).trans (final m c)

/-- The whole program: every run ends with the attention result, reshaped, in the result buffer and the arguments
    unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3)
        = shapeCast S8x1x65536 (result m c) shapeCasts_S8x128x512_S8x1x65536
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hv : θ_run defs (onTc (τ := τ) (main (F := Ideal))) ⟨m, fun _ => 0, ρ⟩ (fun r => ∀ c : Dev nD,
      r.2.mem ((c.tc : Thread nD τ).loc main_v3)
        = shapeCast S8x1x65536 (result m c) shapeCasts_S8x128x512_S8x1x65536) :=
    (θ_run defs _ _).mono (fun _ h c =>
      ((h c).2 main_v3 (Pipeline.mem_restRefs_of main_v3 (by decide) (by decide))).trans (tail m c)) (run_main m ρ)
  exact (θ_run defs _ _).mono (fun _ h c => ⟨h.1 c, h.2 c⟩) (θ_run_and hv (unchanged m ρ))

end Cert.ReferenceIdeal.Hand

end
-- ==== Proof.lean ====
/- The certificate: the three programs' frames, the idealization (which rewrites nothing), and the equality of the
   kernel's result with the reference's over the extended reals. The mathematics is in Proof/Softmax.lean and
   Proof/Attention.lean, what each program computes in Proof/Kernel.lean and Proof/Reference.lean. -/
module

public import proofs.«01_k».proof.Proof.Kernel
public import proofs.«01_k».proof.Proof.Reference
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- From memories that agree on the arguments, kernel and reference read the same operands, hence leave the same
    attention result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.result m' c = Cert.KernelIdeal.Hand.result m c := by
  obtain ⟨h0, h1, h2, h3, h4⟩ := h
  have e : Cert.ReferenceIdeal.Hand.inputs m' c = Cert.KernelIdeal.Hand.inputs m c := by
    unfold Cert.ReferenceIdeal.Hand.inputs Cert.KernelIdeal.Hand.inputs Cert.ReferenceIdeal.Hand.qBuf
      Cert.ReferenceIdeal.Hand.qrBuf
    rw [h0, h1, h2, h3, h4]
    rfl
  unfold Cert.ReferenceIdeal.Hand.result Cert.KernelIdeal.Hand.result
  rw [e]

/-- Kernel and reference, run from memories that agree on the arguments, end with equal results. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [result_eq m m' c (hagree c)]

/-- The whole certificate: each program ends with its arguments unchanged and its counters at zero, the idealization
    rewrote nothing, and kernel and reference agree. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
